-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.PackStatement Cert.KernelIdeal.S1664x128
  ∧ IdealRules.bf16_pair.Statement Cert.KernelIdeal.S3328x128 Cert.KernelIdeal.S1664x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x3328 : Shape := ⟨3, ![3, 4096, 3328]⟩
abbrev S1664x5760 : Shape := ⟨2, ![1664, 5760]⟩
abbrev S16 : Shape := ⟨1, ![16]⟩
abbrev S52x5760 : Shape := ⟨2, ![52, 5760]⟩
abbrev S1170 : Shape := ⟨1, ![1170]⟩
abbrev S3328x64 : Shape := ⟨2, ![3328, 64]⟩
abbrev S64x5760 : Shape := ⟨2, ![64, 5760]⟩
abbrev S5760 : Shape := ⟨1, ![5760]⟩
abbrev S1170x256 : Shape := ⟨2, ![1170, 256]⟩
abbrev S299520 : Shape := ⟨1, ![299520]⟩
abbrev S1x16 : Shape := ⟨2, ![1, 16]⟩
abbrev S3328x5760 : Shape := ⟨2, ![3328, 5760]⟩
abbrev S1664x640 : Shape := ⟨2, ![1664, 640]⟩
abbrev S52x640 : Shape := ⟨2, ![52, 640]⟩
abbrev S3328x640 : Shape := ⟨2, ![3328, 640]⟩
abbrev S8x16 : Shape := ⟨2, ![8, 16]⟩
abbrev S8x128 : Shape := ⟨2, ![8, 128]⟩
abbrev S8x128x1 : Shape := ⟨3, ![8, 128, 1]⟩
abbrev S1664x128 : Shape := ⟨2, ![1664, 128]⟩
abbrev S1x128 : Shape := ⟨2, ![1, 128]⟩
abbrev S1664x128x1 : Shape := ⟨3, ![1664, 128, 1]⟩
abbrev S3328x128 : Shape := ⟨2, ![3328, 128]⟩
abbrev S52x128 : Shape := ⟨2, ![52, 128]⟩
abbrev S52x64x128 : Shape := ⟨3, ![52, 64, 128]⟩
abbrev S52x1x128 : Shape := ⟨3, ![52, 1, 128]⟩
abbrev S12288x3328 : Shape := ⟨2, ![12288, 3328]⟩
abbrev S1x5760 : Shape := ⟨2, ![1, 5760]⟩
abbrev S12288x5760 : Shape := ⟨2, ![12288, 5760]⟩
abbrev S256x3328 : Shape := ⟨2, ![256, 3328]⟩
abbrev S256x5760 : Shape := ⟨2, ![256, 5760]⟩
abbrev S256x64 : Shape := ⟨2, ![256, 64]⟩
abbrev S3328x512 : Shape := ⟨2, ![3328, 512]⟩
abbrev S256x512 : Shape := ⟨2, ![256, 512]⟩
abbrev S64x512 : Shape := ⟨2, ![64, 512]⟩
abbrev S1x512 : Shape := ⟨2, ![1, 512]⟩
abbrev S256x128 : Shape := ⟨2, ![256, 128]⟩
abbrev S64x128 : Shape := ⟨2, ![64, 128]⟩
abbrev S3x4096x5760 : Shape := ⟨3, ![3, 4096, 5760]⟩

abbrev nBuf : Space → Nat
  | .hbm => 17
  | .vmem => 17
  | .smem => 0
  | _ => 0

abbrev bufTy : (tb : Table) → Fin (tcTables nBuf tb) → BufTy
  | .hbm, ⟨0, _⟩ => ⟨S3x4096x3328, .bf16⟩
  | .hbm, ⟨1, _⟩ => ⟨S1664x5760, .i8⟩
  | .hbm, ⟨2, _⟩ => ⟨S16, .f32⟩
  | .hbm, ⟨3, _⟩ => ⟨S52x5760, .i8⟩
  | .hbm, ⟨4, _⟩ => ⟨S1170, .f32⟩
  | .hbm, ⟨5, _⟩ => ⟨S3328x64, .bf16⟩
  | .hbm, ⟨6, _⟩ => ⟨S64x5760, .bf16⟩
  | .hbm, ⟨7, _⟩ => ⟨S5760, .f32⟩
  | .hbm, ⟨8, _⟩ => ⟨S1170x256, .f32⟩
  | .hbm, ⟨9, _⟩ => ⟨S299520, .f32⟩
  | .hbm, ⟨10, _⟩ => ⟨S52x5760, .f32⟩
  | .hbm, ⟨11, _⟩ => ⟨S1x16, .f32⟩
  | .hbm, ⟨12, _⟩ => ⟨S3328x5760, .bf16⟩
  | .hbm, ⟨13, _⟩ => ⟨S12288x3328, .bf16⟩
  | .hbm, ⟨14, _⟩ => ⟨S1x5760, .f32⟩
  | .hbm, ⟨15, _⟩ => ⟨S12288x5760, .bf16⟩
  | .hbm, ⟨16, _⟩ => ⟨S3x4096x5760, .bf16⟩
  | .local _ .vmem, ⟨0, _⟩ => ⟨S1664x640, .i8⟩
  | .local _ .vmem, ⟨1, _⟩ => ⟨S1664x640, .i8⟩
  | .local _ .vmem, ⟨2, _⟩ => ⟨S1x16, .f32⟩
  | .local _ .vmem, ⟨3, _⟩ => ⟨S52x640, .i8⟩
  | .local _ .vmem, ⟨4, _⟩ => ⟨S52x640, .i8⟩
  | .local _ .vmem, ⟨5, _⟩ => ⟨S52x640, .f32⟩
  | .local _ .vmem, ⟨6, _⟩ => ⟨S52x640, .f32⟩
  | .local _ .vmem, ⟨7, _⟩ => ⟨S3328x640, .bf16⟩
  | .local _ .vmem, ⟨8, _⟩ => ⟨S3328x640, .bf16⟩
  | .local _ .vmem, ⟨9, _⟩ => ⟨S256x3328, .bf16⟩
  | .local _ .vmem, ⟨10, _⟩ => ⟨S256x3328, .bf16⟩
  | .local _ .vmem, ⟨11, _⟩ => ⟨S3328x5760, .bf16⟩
  | .local _ .vmem, ⟨12, _⟩ => ⟨S3328x64, .bf16⟩
  | .local _ .vmem, ⟨13, _⟩ => ⟨S64x5760, .bf16⟩
  | .local _ .vmem, ⟨14, _⟩ => ⟨S1x5760, .f32⟩
  | .local _ .vmem, ⟨15, _⟩ => ⟨S256x5760, .bf16⟩
  | .local _ .vmem, ⟨16, _⟩ => ⟨S256x5760, .bf16⟩
  | _, _ => ⟨S3x4096x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1664x640 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S52x640 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S52x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3328x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3328 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3328x5760 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3328x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x5760 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5760 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x5760 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F]
-- ==== ReferenceIdeal.lean ====
abbrev S3x4096x3328 : Shape := ⟨3, ![3, 4096, 3328]⟩
abbrev S1664x5760 : Shape := ⟨2, ![1664, 5760]⟩
abbrev S16 : Shape := ⟨1, ![16]⟩
abbrev S52x5760 : Shape := ⟨2, ![52, 5760]⟩
abbrev S1170 : Shape := ⟨1, ![1170]⟩
abbrev S3328x64 : Shape := ⟨2, ![3328, 64]⟩
abbrev S64x5760 : Shape := ⟨2, ![64, 5760]⟩
abbrev S5760 : Shape := ⟨1, ![5760]⟩
abbrev S_ : Shape := ⟨0, ![]⟩
abbrev S1664x1x5760 : Shape := ⟨3, ![1664, 1, 5760]⟩
abbrev S1664x2x5760 : Shape := ⟨3, ![1664, 2, 5760]⟩
abbrev S3328x5760 : Shape := ⟨2, ![3328, 5760]⟩
abbrev S3328x5760x1 : Shape := ⟨3, ![3328, 5760, 1]⟩
abbrev S1 : Shape := ⟨1, ![1]⟩
abbrev S1x1x1 : Shape := ⟨3, ![1, 1, 1]⟩
abbrev S1170x256 : Shape := ⟨2, ![1170, 256]⟩
abbrev S1170x1 : Shape := ⟨2, ![1170, 1]⟩
abbrev S52x64x5760 : Shape := ⟨3, ![52, 64, 5760]⟩
abbrev S52x1x5760 : Shape := ⟨3, ![52, 1, 5760]⟩
abbrev S3x4096x5760 : Shape := ⟨3, ![3, 4096, 5760]⟩
abbrev S3x4096x64 : Shape := ⟨3, ![3, 4096, 64]⟩
abbrev S1x1x5760 : Shape := ⟨3, ![1, 1, 5760]⟩

abbrev nBuf : Space → Nat
  | .hbm => 67
  | .vmem => 0
  | .smem => 0
  | _ => 0

abbrev bufTy : (tb : Table) → Fin (tcTables nBuf tb) → BufTy
  | .hbm, ⟨0, _⟩ => ⟨S3x4096x3328, .bf16⟩
  | .hbm, ⟨1, _⟩ => ⟨S1664x5760, .i8⟩
  | .hbm, ⟨2, _⟩ => ⟨S16, .f32⟩
  | .hbm, ⟨3, _⟩ => ⟨S52x5760, .i8⟩
  | .hbm, ⟨4, _⟩ => ⟨S1170, .f32⟩
  | .hbm, ⟨5, _⟩ => ⟨S3328x64, .bf16⟩
  | .hbm, ⟨6, _⟩ => ⟨S64x5760, .bf16⟩
  | .hbm, ⟨7, _⟩ => ⟨S5760, .f32⟩
  | .hbm, ⟨8, _⟩ => ⟨S1664x5760, .i32⟩
  | .hbm, ⟨9, _⟩ => ⟨S_, .i32⟩
  | .hbm, ⟨10, _⟩ => ⟨S1664x5760, .i32⟩
  | .hbm, ⟨11, _⟩ => ⟨S1664x5760, .i32⟩
  | .hbm, ⟨12, _⟩ => ⟨S_, .i32⟩
  | .hbm, ⟨13, _⟩ => ⟨S1664x5760, .i32⟩
  | .hbm, ⟨14, _⟩ => ⟨S1664x5760, .i32⟩
  | .hbm, ⟨15, _⟩ => ⟨S1664x1x5760, .i32⟩
  | .hbm, ⟨16, _⟩ => ⟨S1664x1x5760, .i32⟩
  | .hbm, ⟨17, _⟩ => ⟨S1664x2x5760, .i32⟩
  | .hbm, ⟨18, _⟩ => ⟨S3328x5760, .i32⟩
  | .hbm, ⟨19, _⟩ => ⟨S16, .bf16⟩
  | .hbm, ⟨20, _⟩ => ⟨S_, .i32⟩
  | .hbm, ⟨21, _⟩ => ⟨S3328x5760, .i32⟩
  | .hbm, ⟨22, _⟩ => ⟨S3328x5760, .i1⟩
  | .hbm, ⟨23, _⟩ => ⟨S_, .i32⟩
  | .hbm, ⟨24, _⟩ => ⟨S3328x5760, .i32⟩
  | .hbm, ⟨25, _⟩ => ⟨S3328x5760, .i32⟩
  | .hbm, ⟨26, _⟩ => ⟨S3328x5760, .i32⟩
  | .hbm, ⟨27, _⟩ => ⟨S3328x5760x1, .i32⟩
  | .hbm, ⟨28, _⟩ => ⟨S1, .i32⟩
  | .hbm, ⟨29, _⟩ => ⟨S_, .i32⟩
  | .hbm, ⟨30, _⟩ => ⟨S3328x5760x1, .i32⟩
  | .hbm, ⟨31, _⟩ => ⟨S3328x5760x1, .i1⟩
  | .hbm, ⟨32, _⟩ => ⟨S1x1x1, .i32⟩
  | .hbm, ⟨33, _⟩ => ⟨S3328x5760x1, .i32⟩
  | .hbm, ⟨34, _⟩ => ⟨S3328x5760x1, .i1⟩
  | .hbm, ⟨35, _⟩ => ⟨S3328x5760x1, .i1⟩
  | .hbm, ⟨36, _⟩ => ⟨S_, .i1⟩
  | .hbm, ⟨37, _⟩ => ⟨S3328x5760, .i1⟩
  | .hbm, ⟨38, _⟩ => ⟨S3328x5760, .bf16⟩
  | .hbm, ⟨39, _⟩ => ⟨S_, .bf16⟩
  | .hbm, ⟨40, _⟩ => ⟨S3328x5760, .bf16⟩
  | .hbm, ⟨41, _⟩ => ⟨S3328x5760, .bf16⟩
  | .hbm, ⟨42, _⟩ => ⟨S52x5760, .i32⟩
  | .hbm, ⟨43, _⟩ => ⟨S52x5760, .f32⟩
  | .hbm, ⟨44, _⟩ => ⟨S1170x256, .f32⟩
  | .hbm, ⟨45, _⟩ => ⟨S1170x1, .f32⟩
  | .hbm, ⟨46, _⟩ => ⟨S1170x256, .f32⟩
  | .hbm, ⟨47, _⟩ => ⟨S1170x256, .f32⟩
  | .hbm, ⟨48, _⟩ => ⟨S52x5760, .f32⟩
  | .hbm, ⟨49, _⟩ => ⟨S52x5760, .bf16⟩
  | .hbm, ⟨50, _⟩ => ⟨S52x64x5760, .bf16⟩
  | .hbm, ⟨51, _⟩ => ⟨S52x1x5760, .bf16⟩
  | .hbm, ⟨52, _⟩ => ⟨S52x64x5760, .bf16⟩
  | .hbm, ⟨53, _⟩ => ⟨S52x64x5760, .bf16⟩
  | .hbm, ⟨54, _⟩ => ⟨S3328x5760, .bf16⟩
  | .hbm, ⟨55, _⟩ => ⟨S3x4096x5760, .f32⟩
  | .hbm, ⟨56, _⟩ => ⟨S3x4096x64, .f32⟩
  | .hbm, ⟨57, _⟩ => ⟨S3x4096x64, .bf16⟩
  | .hbm, ⟨58, _⟩ => ⟨S3x4096x5760, .f32⟩
  | .hbm, ⟨59, _⟩ => ⟨S_, .f32⟩
  | .hbm, ⟨60, _⟩ => ⟨S3x4096x5760, .f32⟩
  | .hbm, ⟨61, _⟩ => ⟨S3x4096x5760, .f32⟩
  | .hbm, ⟨62, _⟩ => ⟨S3x4096x5760, .f32⟩
  | .hbm, ⟨63, _⟩ => ⟨S1x1x5760, .f32⟩
  | .hbm, ⟨64, _⟩ => ⟨S3x4096x5760, .f32⟩
  | .hbm, ⟨65, _⟩ => ⟨S3x4096x5760, .f32⟩
  | .hbm, ⟨66, _⟩ => ⟨S3x4096x5760, .bf16⟩
  | _, _ => ⟨S3x4096x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩

abbrev nD : Nat := 1
abbrev τ : Topo := Topo.v7x

variable {F : FTy → Type} [FloatOps F]
-- ==== Proof.Tile.lean ====
/-
  One column tile of the dequantization.

  The kernel unpacks the codes 128 columns at a time. A byte `w` holds the codes of two neighbouring rows: row `2r` is its
  high four bits, row `2r + 1` its low four. The three tables the kernel builds are lookups of the 16-entry code table
  tiled to 128 lanes: `hi` for bytes below 128, `hi'` for bytes from 128 on, `lo` for the low four bits of any byte.
-/
module

public import proofs.«01_k».proof.Proof.Gen.KernelIdeal.Frame
public import Idealize.ShloMosaic.Lib.Pointwise

@[expose] public section

noncomputable section

namespace Cert.KernelIdeal.Dequant

open Cert.KernelIdeal Cert.KernelIdeal.Gen Idealize.ShloMosaic

/-- A lookup of lanes of a table's first row: the index is wrapped when negative, as `jnp.take_along_axis` does. -/
def gat (t : FVec Ideal S8x128 .f32) (q : IVec S1664x128 32) : FVec Ideal S1664x128 .bf16 :=
  truncf .bf16 (dynamicGather 1
    (broadcastTo S1664x128 (shapeCast S1x128 (extractStridedSlice S1x128 ![0, 0] t slices_S8x128_o0_0_S1x128)
      shapeCasts_S1x128_S1x128) broadcasts_S1x128_S1664x128)
    (shapeCast S1664x128 (shapeCast S1664x128x1
      (select (cmpi .slt q (broadcast S1664x128 0#32)) (addi q (broadcast S1664x128 128#32)) q)
      shapeCasts_S1664x128_S1664x128x1) shapeCasts_S1664x128x1_S1664x128)) bitsLt_bf16_f32

/-- The codes' table values of one tile: even rows from the high four bits, odd rows from the low four. -/
def looked (lo hi hi' : FVec Ideal S8x128 .f32) (b : Vec Ideal S1664x128 .i8) : FVec Ideal S3328x128 .bf16 :=
  interleaveRows S3328x128
    (select (cmpi .sge (k0_pay8 (F := Ideal) b) (broadcast S1664x128 128#32)) (gat hi' (k0_pay9 (F := Ideal) b)) (gat hi (k0_pay9 (F := Ideal) b)))
    (select (cmpi .sge (k0_pay8 (F := Ideal) b) (broadcast S1664x128 128#32)) (gat lo (k0_pay9 (F := Ideal) b)) (gat lo (k0_pay9 (F := Ideal) b)))
    bitcasts_S3328x128_w16_S1664x128_w32

/-- A tile: the looked up values, each block of 64 rows multiplied by its scale row. -/
def tile (lo hi hi' : FVec Ideal S8x128 .f32) (s : FVec Ideal S52x128 .bf16) (b : Vec Ideal S1664x128 .i8) : FVec Ideal S3328x128 .bf16 :=
  shapeCast S3328x128 (mulf (shapeCast S52x64x128 (looked lo hi hi' b) shapeCasts_S3328x128_S52x64x128)
    (broadcastTo S52x64x128 (shapeCast S52x1x128 s shapeCasts_S52x128_S52x1x128) broadcasts_S52x1x128_S52x64x128))
    shapeCasts_S52x64x128_S3328x128

section
variable (lo hi hi' : FVec Ideal S8x128 .f32) (s : FVec Ideal S52x640 .bf16) (b : Vec Ideal S1664x128 .i8)

/-- The five stores of the kernel are the same tile, at the five column offsets of the scales. -/
theorem store0 : k0_pay15 s (k0_pay8 b) (k0_pay9 b) (k0_pay10 hi b) (k0_pay11 lo b) (k0_pay12 hi' b) (k0_pay13 lo) (k0_pay14 b) 128#32
    = tile lo hi hi' (extractStridedSlice S52x128 ![0, 0] s slices_S52x640_o0_0_S52x128) b := rfl
theorem store1 : k0_pay21 lo s (k0_pay16 b) (k0_pay17 b) (k0_pay18 hi b) (k0_pay19 lo b) (k0_pay20 hi')
    = tile lo hi hi' (extractStridedSlice S52x128 ![0, 128] s slices_S52x640_o0_128_S52x128) b := rfl
theorem store2 : k0_pay26 lo hi' s (k0_pay22 b) (k0_pay23 b) (k0_pay24 hi) (k0_pay25 b)
    = tile lo hi hi' (extractStridedSlice S52x128 ![0, 256] s slices_S52x640_o0_256_S52x128) b := rfl
theorem store3 : k0_pay34 s (k0_pay27 b) (k0_pay29 hi b) (k0_pay30 lo b) (k0_pay31 hi' b) (k0_pay32 lo) (k0_pay33 b)
    = tile lo hi hi' (extractStridedSlice S52x128 ![0, 384] s slices_S52x640_o0_384_S52x128) b := rfl
theorem store4 : k0_pay1 lo s (k0_pay35 b) (k0_pay36 b) (k0_pay37 hi b) (k0_pay38 lo b) (k0_pay39 hi') 0#32
    = tile lo hi hi' (extractStridedSlice S52x128 ![0, 512] s slices_S52x640_o0_512_S52x128) b := rfl
end

/-- The four-bit code that row `k` takes out of the byte `w`. -/
def nib (k : Nat) (w : BitVec 8) : Fin 16 :=
  if k % 2 = 0 then ⟨w.toNat / 16, by omega⟩ else ⟨w.toNat % 16, by omega⟩

/-- The tiled table's lane `j` is the code table's entry `j mod 16`. -/
theorem tiled_apply (v : Vec Ideal S1x16 .f32) (r : Fin 8) (l : Fin 128) :
    k0_pay2 v (ix2 r l) = v (ix2 0 ⟨l.val % 16, by omega⟩) := by
  have h8 : ∀ (u : FVec Ideal S1x16 .f32) (r : Fin 8) (l : Fin 16),
      concatenate S8x16 0 (List.replicate 8 (⟨S1x16, u⟩ : (s : Shape) × (s.Idx → Ideal .f32)))
        concatenates_S1x16_S1x16_S1x16_S1x16_S1x16_S1x16_S1x16_S1x16_S8x16_d0 (ix2 r l) = u (ix2 0 l) := fun u r l =>
    concatenate_replicate_apply (t := S8x16) (s₁ := S1x16) 0 8 u _ rfl (ix2 r l) (ix2 0 l)
      (by show 0 = r.val % 1; omega) (fun b hb => match b with | ⟨0, _⟩ => absurd rfl hb | ⟨1, _⟩ => rfl)
  have h128 : ∀ (u : FVec Ideal S8x16 .f32) (r : Fin 8) (l : Fin 128),
      concatenate S8x128 1 (List.replicate 8 (⟨S8x16, u⟩ : (s : Shape) × (s.Idx → Ideal .f32)))
        concatenates_S8x16_S8x16_S8x16_S8x16_S8x16_S8x16_S8x16_S8x16_S8x128_d1 (ix2 r l) = u (ix2 r ⟨l.val % 16, by omega⟩) := fun u r l =>
    concatenate_replicate_apply (t := S8x128) (s₁ := S8x16) 1 8 u _ rfl (ix2 r l) (ix2 r ⟨l.val % 16, by omega⟩)
      rfl (fun b hb => match b with | ⟨0, _⟩ => rfl | ⟨1, _⟩ => absurd rfl hb)
  refine (h128 _ r l).trans ((h8 _ r _).trans ?_)
  pointwise

/-- The three index words of a table's lane `l`, wrapped: none is negative. -/
theorem lane_lo (l : Fin 128) : (Scalar.select (IntOp.cmpi .slt (IntOp.andi (BitVec.ofNat 32 l.val) 15#32) 0#32)
    (IntOp.addi (IntOp.andi (BitVec.ofNat 32 l.val) 15#32) 128#32) (IntOp.andi (BitVec.ofNat 32 l.val) 15#32)).toNat % 128 % 16 = l.val % 16 :=
  (by decide +kernel : ∀ l : Fin 128, (Scalar.select (IntOp.cmpi .slt (IntOp.andi (BitVec.ofNat 32 l.val) 15#32) 0#32)
    (IntOp.addi (IntOp.andi (BitVec.ofNat 32 l.val) 15#32) 128#32) (IntOp.andi (BitVec.ofNat 32 l.val) 15#32)).toNat % 128 % 16 = l.val % 16) l

theorem lane_hi (l : Fin 128) : (Scalar.select (IntOp.cmpi .slt (IntOp.shrsi .vector (IntOp.addi (BitVec.ofNat 32 l.val) 0#32) 4#32) 0#32)
    (IntOp.addi (IntOp.shrsi .vector (IntOp.addi (BitVec.ofNat 32 l.val) 0#32) 4#32) 128#32)
    (IntOp.shrsi .vector (IntOp.addi (BitVec.ofNat 32 l.val) 0#32) 4#32)).toNat % 128 % 16 = l.val / 16 :=
  (by decide +kernel : ∀ l : Fin 128, (Scalar.select (IntOp.cmpi .slt (IntOp.shrsi .vector (IntOp.addi (BitVec.ofNat 32 l.val) 0#32) 4#32) 0#32)
    (IntOp.addi (IntOp.shrsi .vector (IntOp.addi (BitVec.ofNat 32 l.val) 0#32) 4#32) 128#32)
    (IntOp.shrsi .vector (IntOp.addi (BitVec.ofNat 32 l.val) 0#32) 4#32)).toNat % 128 % 16 = l.val / 16) l
theorem lane_hi' (l : Fin 128) : (Scalar.select (IntOp.cmpi .slt (IntOp.shrsi .vector (IntOp.addi (BitVec.ofNat 32 l.val) 128#32) 4#32) 0#32)
    (IntOp.addi (IntOp.shrsi .vector (IntOp.addi (BitVec.ofNat 32 l.val) 128#32) 4#32) 128#32)
    (IntOp.shrsi .vector (IntOp.addi (BitVec.ofNat 32 l.val) 128#32) 4#32)).toNat % 128 % 16 = 8 + l.val / 16 :=
  (by decide +kernel : ∀ l : Fin 128, (Scalar.select (IntOp.cmpi .slt (IntOp.shrsi .vector (IntOp.addi (BitVec.ofNat 32 l.val) 128#32) 4#32) 0#32)
    (IntOp.addi (IntOp.shrsi .vector (IntOp.addi (BitVec.ofNat 32 l.val) 128#32) 4#32) 128#32)
    (IntOp.shrsi .vector (IntOp.addi (BitVec.ofNat 32 l.val) 128#32) 4#32)).toNat % 128 % 16 = 8 + l.val / 16) l

/-- A byte's low seven bits, as the kernel's wrapped index word. -/
theorem byte (w : BitVec 8) : (Scalar.select (IntOp.cmpi .slt (IntOp.andi (BitVec.setWidth 32 w) 127#32) 0#32)
    (IntOp.addi (IntOp.andi (BitVec.setWidth 32 w) 127#32) 128#32) (IntOp.andi (BitVec.setWidth 32 w) 127#32)).toNat % 128 = w.toNat % 128 := by
  revert w; decide +kernel

/-- The table of the low four bits. -/
theorem lo_apply (v : Vec Ideal S1x16 .f32) (l : Fin 128) :
    k0_pay3 v (ix2 0 l) = v (ix2 0 ⟨l.val % 16, by omega⟩) := by
  pointwise [k0_pay3]
  rw [tiled_apply]
  simp only [lane_lo]

/-- The table of the high four bits of a byte below 128. -/
theorem hi_apply (v : Vec Ideal S1x16 .f32) (l : Fin 128) :
    k0_pay4 v (ix2 0 l) = v (ix2 0 ⟨l.val / 16, by omega⟩) := by
  pointwise [k0_pay4]
  rw [tiled_apply]
  simp only [lane_hi]

/-- The table of the high four bits of a byte from 128 on, by its low seven bits. -/
theorem hi'_apply (v : Vec Ideal S1x16 .f32) (l : Fin 128) :
    k0_pay5 v (ix2 0 l) = v (ix2 0 ⟨8 + l.val / 16, by omega⟩) := by
  pointwise [k0_pay5]
  rw [tiled_apply]
  simp only [lane_hi']

/-- A lookup at an index: the table's lane that the byte's low seven bits name. -/
theorem gat_apply (t : FVec Ideal S8x128 .f32) (b : Vec Ideal S1664x128 .i8) (r : Fin 1664) (l : Fin 128) :
    gat t (k0_pay9 (F := Ideal) b) (ix2 r l) = t (ix2 0 ⟨BitVec.toNat (b (ix2 r l)) % 128, by omega⟩) := by
  pointwise [gat, k0_pay9, k0_pay8]
  simp only [byte]

/-- Whether a byte is 128 or more, as the kernel's comparison word. -/
theorem sge128 (w : BitVec 8) : IntOp.cmpi .sge (BitVec.setWidth 32 w) 128#32 = if 128 ≤ w.toNat then 1#1 else 0#1 := by
  revert w; decide +kernel

/-- The three tables' entries that a byte leads to are the code table's entry for the row's code. -/
theorem pick (v : Vec Ideal S1x16 .f32) (k : Nat) (w : BitVec 8) :
    (if k % 2 = 0 then Scalar.select (IntOp.cmpi .sge (BitVec.setWidth 32 w) 128#32)
        (v (ix2 0 ⟨8 + w.toNat % 128 / 16, by omega⟩)) (v (ix2 0 ⟨w.toNat % 128 / 16, by omega⟩))
      else v (ix2 0 ⟨w.toNat % 128 % 16, by omega⟩)) = v (ix2 0 (nib k w)) := by
  rw [sge128]
  have hw := w.isLt
  have key : ∀ (i j : Nat) (hi : i < 16) (hj : j < 16), i = j → v (ix2 0 ⟨i, hi⟩) = v (ix2 0 ⟨j, hj⟩) := by
    intro i j hi hj h; subst h; rfl
  unfold nib
  by_cases hk : k % 2 = 0
  · rw [if_pos hk, if_pos hk]
    by_cases h : 128 ≤ w.toNat
    · rw [if_pos h]; exact key _ _ _ _ (by omega)
    · rw [if_neg h]; exact key _ _ _ _ (by omega)
  · rw [if_neg hk, if_neg hk]; exact key _ _ _ _ (by omega)

/-- **A tile at an index**: the code table's entry for the row's four-bit code, times the row block's scale. -/
theorem tile_apply (v : Vec Ideal S1x16 .f32) (s : FVec Ideal S52x128 .bf16) (b : Vec Ideal S1664x128 .i8) (k : Fin 3328) (l : Fin 128) :
    tile (k0_pay3 v) (k0_pay4 v) (k0_pay5 v) s b (ix2 k l)
      = v (ix2 0 (nib k.val (b (ix2 ⟨k.val / 2, by omega⟩ l)))) * s (ix2 ⟨k.val / 64, by omega⟩ l) := by
  pointwise [tile, looked]
  rw [gat_apply, gat_apply, gat_apply, hi_apply, lo_apply, hi'_apply]
  pointwise [k0_pay8]
  exact congrArg (· * s (ix2 ⟨k.val / 64, by omega⟩ l)) (pick v k.val (b (ix2 ⟨k.val / 2, by omega⟩ l)))

end Cert.KernelIdeal.Dequant
-- ==== Proof.Formula.lean ====
/-
  The layer's mathematics, entry by entry: what both programs are shown to compute.

  The weights are stored as four-bit codes into a table of sixteen, with an integer scale for each sixty-four rows of a
  column and a float scale for each 256 integer scales. The layer multiplies its input with those weights, adds a quarter of
  a product through two low-rank factors, and adds a bias.
-/
module

public import Idealize.ShloMosaic.Lib.Pointwise
public import proofs.«01_k».proof.Proof.Tile

@[expose] public section

noncomputable section

namespace Cert.Formula

open Idealize.ShloMosaic

/-- The code of a row in the byte it shares with its neighbour. -/
abbrev nib (k : Nat) (w : BitVec 8) : Fin 16 := Cert.KernelIdeal.Dequant.nib k w

/-- A weight: the table's entry at the code, times the product of the two scales. -/
def weight (q : Vec Ideal ⟨2, ![1664, 5760]⟩ .i8) (tbl : Vec Ideal ⟨1, ![16]⟩ .f32) (am : Vec Ideal ⟨2, ![52, 5760]⟩ .i8)
    (sc : Vec Ideal ⟨1, ![1170]⟩ .f32) (k : Fin 3328) (o : Fin 5760) : EReal :=
  tbl (ix1 (nib k.val (q (ix2 ⟨k.val / 2, by omega⟩ o))))
    * (FloatOps.sitofp (F := Ideal) .f32 (am (ix2 ⟨k.val / 64, by omega⟩ o) : BitVec 8)
      * sc (ix1 ⟨(k.val / 64 * 5760 + o.val) / 256, by omega⟩))

/-- An entry of the layer's result, from its weights. -/
def result (x : Vec Ideal ⟨3, ![3, 4096, 3328]⟩ .bf16) (w : Fin 3328 → Fin 5760 → EReal) (a : Vec Ideal ⟨2, ![3328, 64]⟩ .bf16)
    (b : Vec Ideal ⟨2, ![64, 5760]⟩ .bf16) (bi : Vec Ideal ⟨1, ![5760]⟩ .f32) (p : Fin 3) (s : Fin 4096) (o : Fin 5760) : EReal :=
  (∑ k : Fin 3328, x (ix3 p s k) * w k o)
    + FloatOps.ofBits (F := Ideal) .f32 0x3E800000#32 * (∑ j : Fin 64, (∑ k : Fin 3328, x (ix3 p s k) * a (ix2 k j)) * b (ix2 j o))
    + bi (ix1 o)

end Cert.Formula
-- ==== Proof.Dequant.lean ====
/-
  The dequantized weights: what the first kernel call leaves in its result array.

  Each grid point fills 640 columns by five stores of 128. Every store is one tile (Tile.lean), so the block at an index is
  one formula whatever the store; the nine blocks cover the array.
-/
module

public import proofs.«01_k».proof.Proof.Tile
public import Idealize.ShloMosaic.Lib.Tactic
public import Idealize.ShloMosaic.Lib.Pipeline.ValueKit

@[expose] public section

set_option maxRecDepth 16384

noncomputable section

namespace Cert.KernelIdeal.Dequant

open Cert.KernelIdeal Cert.KernelIdeal.Gen Idealize.ShloMosaic Idealize.ShloMosaic.TcCoe Idealize.SL.Sem
open Idealize.ShloMosaic.Pipeline (Dat)

/-- A weight: the code table's entry for the row's four-bit code, times the block's integer scale, times its float scale. -/
def weight {n : Nat} (codes : Vec Ideal ⟨2, ![1664, n]⟩ .i8) (tbl : Vec Ideal S1x16 .f32) (am : Vec Ideal ⟨2, ![52, n]⟩ .i8)
    (sc : Vec Ideal ⟨2, ![52, n]⟩ .f32) (k : Fin 3328) (o : Fin n) : EReal :=
  tbl (ix2 0 (nib k.val (codes (ix2 ⟨k.val / 2, by omega⟩ o))))
    * (FloatOps.sitofp (F := Ideal) .f32 (am (ix2 ⟨k.val / 64, by omega⟩ o) : BitVec 8) * sc (ix2 ⟨k.val / 64, by omega⟩ o))

/-- The block scales: the integer scale times the float scale. -/
theorem scale_apply (a : Vec Ideal S52x640 .i8) (s : Vec Ideal S52x640 .f32) (j : S52x640.Idx) :
    k0_pay7 (k0_pay6 a) s j = FloatOps.sitofp (F := Ideal) .f32 (a j : BitVec 8) * s j := by
  pointwise [k0_pay7, k0_pay6]

/-- A tile whose codes and scales are 128 columns of a block's, from column `off` on, holds the block's weights there. -/
theorem tile_weight (x0 : Vec Ideal S1664x640 .i8) (x1 : Vec Ideal S1x16 .f32) (x2 : Vec Ideal S52x640 .i8) (x3 : Vec Ideal S52x640 .f32)
    (off : Nat) (ho : off + 128 ≤ 640) (s : FVec Ideal S52x128 .bf16) (b : Vec Ideal S1664x128 .i8)
    (hs : ∀ (r : Fin 52) (l : Fin 128), s (ix2 r l) = k0_pay7 (k0_pay6 x2) x3 (ix2 r ⟨off + l.val, by omega⟩))
    (hb : ∀ (r : Fin 1664) (l : Fin 128), b (ix2 r l) = x0 (ix2 r ⟨off + l.val, by omega⟩))
    (x : S3328x128.Idx) (y : S3328x640.Idx) (h0 : (y 0 : Nat) = x 0) (h1 : (y 1 : Nat) = off + x 1) :
    tile (k0_pay3 x1) (k0_pay4 x1) (k0_pay5 x1) s b x = weight x0 x1 x2 x3 (y 0) (y 1) := by
  obtain ⟨k, l, rfl⟩ : ∃ (k : Fin 3328) (l : Fin 128), x = ix2 k l := ⟨x 0, x 1, eq_ix2 x⟩
  obtain ⟨k', o, rfl⟩ : ∃ (k' : Fin 3328) (o : Fin 640), y = ix2 k' o := ⟨y 0, y 1, eq_ix2 y⟩
  obtain rfl : k' = k := Fin.ext h0
  have ho' : o = ⟨off + l.val, by omega⟩ := Fin.ext h1
  show _ = weight x0 x1 x2 x3 k' o
  rw [ho', tile_apply, hs, hb, scale_apply]
  rfl

/-- **The block a grid point leaves**, at an index. -/
theorem out0_apply (x0 : Vec Ideal S1664x640 .i8) (x1 : Vec Ideal S1x16 .f32) (x2 : Vec Ideal S52x640 .i8) (x3 : Vec Ideal S52x640 .f32)
    (y : S3328x640.Idx) : out0_4 x0 x1 x2 x3 y = weight x0 x1 x2 x3 (y 0) (y 1) := by
  unfold_out out0_4
  have hz : (![0, 0] : Fin 2 → Nat) = fun _ => 0 := funext fun a => by fin_cases a <;> rfl
  rw [store0, store1, store2, store3, store4, View.ld_unit_zero (S := S1x16) hz, View.ld_unit_zero (S := S52x640) hz, View.ld_unit_zero (S := S52x640) hz]
  canon_tiles x h
  · exact tile_weight x0 x1 x2 x3 512 (by omega) _ _ (fun r l => by pointwise) (fun r l => by pointwise) x y h0 h1
  · exact tile_weight x0 x1 x2 x3 384 (by omega) _ _ (fun r l => by pointwise) (fun r l => by pointwise) x y h0 h1
  · exact tile_weight x0 x1 x2 x3 256 (by omega) _ _ (fun r l => by pointwise) (fun r l => by pointwise) x y h0 h1
  · exact tile_weight x0 x1 x2 x3 128 (by omega) _ _ (fun r l => by pointwise) (fun r l => by pointwise) x y h0 h1
  · exact tile_weight x0 x1 x2 x3 0 (by omega) _ _ (fun r l => by pointwise) (fun r l => by pointwise) x y h0 (by omega)

variable (V : (c : Dev nD) → (b : Ref sig .tc) → Buf (Elt Ideal) ((c : Thread nD τ).loc b))

/-- Where each window's block lies: column block `t`, and the table whole. -/
theorem idx0 : ∀ t : Fin cfg0.N, win0_0.index t = ![0, t.val] ∧ win0_1.index t = ![0, 0] ∧ win0_2.index t = ![0, t.val]
    ∧ win0_3.index t = ![0, t.val] ∧ win0_4.index t = ![0, t.val] := by decide +kernel

/-- **The array of weights** after the first kernel call, from the arrays it was entered with. -/
theorem final0 (c : Dev nD) : (dat0 V c).arrAt 4 cfg0.N
    = fun i : S3328x5760.Idx => weight (V c main_arg1) (V c main_v3) (V c main_arg3) (V c main_v2) (i 0) (i 1) := by
  refine (dat0 V c).arrAt_eq_of_covers 4 _ (by decide +kernel) fun t hf y => ?_
  blk_simp
  rw [after0_4, out0_apply]
  have ht : t.val < 9 := t.isLt
  have b0 : ∀ (r : Fin 1664) (o : Fin 640), iblk0 V c 0 t (ix2 r o) = V c main_arg1 (ix2 r ⟨t.val * 640 + o.val, by omega⟩) := fun r o => by
    blk_ext [iblk0, idx0 t]
  have b1 : ∀ (r : Fin 1) (o : Fin 16), iblk0 V c 1 t (ix2 r o) = V c main_v3 (ix2 r o) := fun r o => by
    blk_ext [iblk0, idx0 t]
  have b2 : ∀ (r : Fin 52) (o : Fin 640), iblk0 V c 2 t (ix2 r o) = V c main_arg3 (ix2 r ⟨t.val * 640 + o.val, by omega⟩) := fun r o => by
    blk_ext [iblk0, idx0 t]
  have b3 : ∀ (r : Fin 52) (o : Fin 640), iblk0 V c 3 t (ix2 r o) = V c main_v2 (ix2 r ⟨t.val * 640 + o.val, by omega⟩) := fun r o => by
    blk_ext [iblk0, idx0 t]
  have e0 : (win0_4.blk t).view.emb y 0 = (⟨(y 0).val, (y 0).isLt⟩ : Fin 3328) := Fin.ext (by blk_simp [idx0 t])
  have e1 : (win0_4.blk t).view.emb y 1 = (⟨t.val * 640 + (y 1).val, by have h : (y 1).val < 640 := (y 1).isLt; omega⟩ : Fin 5760) := Fin.ext (by blk_simp [idx0 t])
  rw [e0, e1]
  unfold weight
  erw [b0, b1, b2, b3]

end Cert.KernelIdeal.Dequant
-- ==== Proof.Matmul.lean ====
/-
  The product with the weights and the low-rank correction: what the second kernel call leaves in its result array.

  Each grid point holds 256 rows and fills their 5760 columns by twelve stores, eleven of 512 columns and one of 128. Every
  store is one formula on the columns it takes, so the block at an index is one formula whatever the store; the forty-eight
  blocks cover the array.
-/
module

public import proofs.«01_k».proof.Proof.Gen.KernelIdeal.Frame
public import Idealize.ShloMosaic.Lib.Tactic
public import Idealize.ShloMosaic.Lib.Pointwise
public import Idealize.ShloMosaic.Lib.Pipeline.ValueKit

@[expose] public section

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

/-- An entry of the result: the row against a column of the weights, a quarter of the row's low-rank product, and the bias. -/
def entry {m n : Nat} (x : FVec Ideal ⟨2, ![m, 3328]⟩ .bf16) (w : FVec Ideal ⟨2, ![3328, n]⟩ .bf16) (a : FVec Ideal S3328x64 .bf16)
    (b : FVec Ideal ⟨2, ![64, n]⟩ .bf16) (bi : FVec Ideal ⟨2, ![1, n]⟩ .f32) (r : Fin m) (o : Fin n) : EReal :=
  (∑ k : Fin 3328, x (ix2 r k) * w (ix2 k o))
    + Scalar.ofBits (F := Ideal) .f32 0x3E800000#32 * (∑ j : Fin 64, (∑ k : Fin 3328, x (ix2 r k) * a (ix2 k j)) * b (ix2 j o))
    + bi (ix2 0 o)

/-- One store of 512 columns, from the row block, the first low-rank factor, and the columns it loads of the rest. -/
def wide (x : Vec Ideal S256x3328 .bf16) (a : Vec Ideal S3328x64 .bf16) (w : Vec Ideal S3328x512 .bf16) (b : Vec Ideal S64x512 .bf16)
    (bi : Vec Ideal S1x512 .f32) : FVec Ideal S256x512 .bf16 := k1_pay4 x a w b bi

/-- The last store, of 128 columns. -/
def narrow (x : Vec Ideal S256x3328 .bf16) (a : Vec Ideal S3328x64 .bf16) (w : Vec Ideal S3328x128 .bf16) (b : Vec Ideal S64x128 .bf16)
    (bi : Vec Ideal S1x128 .f32) : FVec Ideal S256x128 .bf16 := k1_pay1 (k1_pay2 x) (k1_pay3 x a) w b bi

/-- A store of 512 columns holds the entries of the columns it loaded. -/
theorem wide_apply (x : Vec Ideal S256x3328 .bf16) (a : Vec Ideal S3328x64 .bf16) (w : Vec Ideal S3328x512 .bf16) (b : Vec Ideal S64x512 .bf16)
    (bi : Vec Ideal S1x512 .f32) (r : Fin 256) (l : Fin 512) : wide x a w b bi (ix2 r l) = entry x w a b bi r l := by
  unfold wide entry
  pointwise [k1_pay4, k1_pay3, k1_pay2]

/-- The last store holds the entries of the columns it loaded. -/
theorem narrow_apply (x : Vec Ideal S256x3328 .bf16) (a : Vec Ideal S3328x64 .bf16) (w : Vec Ideal S3328x128 .bf16) (b : Vec Ideal S64x128 .bf16)
    (bi : Vec Ideal S1x128 .f32) (r : Fin 256) (l : Fin 128) : narrow x a w b bi (ix2 r l) = entry x w a b bi r l := by
  unfold narrow entry
  pointwise [k1_pay1, k1_pay3, k1_pay2]

/-- Two entries are equal once what they read is. -/
theorem entry_congr {m n m' n' : Nat} {x : FVec Ideal ⟨2, ![m, 3328]⟩ .bf16} {w : FVec Ideal ⟨2, ![3328, n]⟩ .bf16} {a : FVec Ideal S3328x64 .bf16}
    {b : FVec Ideal ⟨2, ![64, n]⟩ .bf16} {bi : FVec Ideal ⟨2, ![1, n]⟩ .f32} {x' : FVec Ideal ⟨2, ![m', 3328]⟩ .bf16}
    {w' : FVec Ideal ⟨2, ![3328, n']⟩ .bf16} {a' : FVec Ideal S3328x64 .bf16} {b' : FVec Ideal ⟨2, ![64, n']⟩ .bf16}
    {bi' : FVec Ideal ⟨2, ![1, n']⟩ .f32} {r : Fin m} {o : Fin n} {r' : Fin m'} {o' : Fin n'}
    (hx : ∀ k : Fin 3328, x (ix2 r k) = x' (ix2 r' k)) (hw : ∀ k : Fin 3328, w (ix2 k o) = w' (ix2 k o'))
    (ha : ∀ (k : Fin 3328) (j : Fin 64), a (ix2 k j) = a' (ix2 k j)) (hb : ∀ j : Fin 64, b (ix2 j o) = b' (ix2 j o'))
    (hbi : bi (ix2 0 o) = bi' (ix2 0 o')) : entry x w a b bi r o = entry x' w' a' b' bi' r' o' := by
  unfold entry
  simp only [hx, hw, ha, hb, hbi]

/-- A store of 512 columns from column `off` on, at an index of the block it goes to. -/
theorem wide_entry (x : Vec Ideal S256x3328 .bf16) (w : Vec Ideal S3328x5760 .bf16) (a : Vec Ideal S3328x64 .bf16) (b : Vec Ideal S64x5760 .bf16)
    (bi : Vec Ideal S1x5760 .f32) (off : Nat) (ho : off + 512 ≤ 5760)
    (w' : Vec Ideal S3328x512 .bf16) (b' : Vec Ideal S64x512 .bf16) (bi' : Vec Ideal S1x512 .f32)
    (hw : ∀ (k : Fin 3328) (l : Fin 512), w' (ix2 k l) = w (ix2 k ⟨off + l.val, by omega⟩))
    (hb : ∀ (j : Fin 64) (l : Fin 512), b' (ix2 j l) = b (ix2 j ⟨off + l.val, by omega⟩))
    (hbi : ∀ l : Fin 512, bi' (ix2 0 l) = bi (ix2 0 ⟨off + l.val, by omega⟩))
    (i : S256x512.Idx) (y : S256x5760.Idx) (h0 : (y 0 : Nat) = i 0) (h1 : (y 1 : Nat) = off + i 1) :
    wide x a w' b' bi' i = entry x w a b bi (y 0) (y 1) := by
  obtain ⟨r, l, rfl⟩ : ∃ (r : Fin 256) (l : Fin 512), i = ix2 r l := ⟨i 0, i 1, eq_ix2 i⟩
  obtain ⟨r', o, rfl⟩ : ∃ (r' : Fin 256) (o : Fin 5760), y = ix2 r' o := ⟨y 0, y 1, eq_ix2 y⟩
  obtain rfl : r' = r := Fin.ext h0
  have ho' : o = ⟨off + l.val, by omega⟩ := Fin.ext h1
  show _ = entry x w a b bi r' o
  rw [ho', wide_apply]
  exact entry_congr (fun _ => rfl) (fun k => hw k l) (fun _ _ => rfl) (fun j => hb j l) (hbi l)

/-- The last store, at an index of the block it goes to. -/
theorem narrow_entry (x : Vec Ideal S256x3328 .bf16) (w : Vec Ideal S3328x5760 .bf16) (a : Vec Ideal S3328x64 .bf16) (b : Vec Ideal S64x5760 .bf16)
    (bi : Vec Ideal S1x5760 .f32) (off : Nat) (ho : off + 128 ≤ 5760)
    (w' : Vec Ideal S3328x128 .bf16) (b' : Vec Ideal S64x128 .bf16) (bi' : Vec Ideal S1x128 .f32)
    (hw : ∀ (k : Fin 3328) (l : Fin 128), w' (ix2 k l) = w (ix2 k ⟨off + l.val, by omega⟩))
    (hb : ∀ (j : Fin 64) (l : Fin 128), b' (ix2 j l) = b (ix2 j ⟨off + l.val, by omega⟩))
    (hbi : ∀ l : Fin 128, bi' (ix2 0 l) = bi (ix2 0 ⟨off + l.val, by omega⟩))
    (i : S256x128.Idx) (y : S256x5760.Idx) (h0 : (y 0 : Nat) = i 0) (h1 : (y 1 : Nat) = off + i 1) :
    narrow x a w' b' bi' i = entry x w a b bi (y 0) (y 1) := by
  obtain ⟨r, l, rfl⟩ : ∃ (r : Fin 256) (l : Fin 128), i = ix2 r l := ⟨i 0, i 1, eq_ix2 i⟩
  obtain ⟨r', o, rfl⟩ : ∃ (r' : Fin 256) (o : Fin 5760), y = ix2 r' o := ⟨y 0, y 1, eq_ix2 y⟩
  obtain rfl : r' = r := Fin.ext h0
  have ho' : o = ⟨off + l.val, by omega⟩ := Fin.ext h1
  show _ = entry x w a b bi r' o
  rw [ho', narrow_apply]
  exact entry_congr (fun _ => rfl) (fun k => hw k l) (fun _ _ => rfl) (fun j => hb j l) (hbi l)

variable (V : (c : Dev nD) → (b : Ref sig .tc) → Buf (Elt Ideal) ((c : Thread nD τ).loc b))

/-- **The block a grid point leaves**, at an index. -/
theorem out1_apply (c : Dev nD) (t : Fin cfg1.N) (y : S256x5760.Idx) :
    outsAt1 V c t y = entry (iblk1 V c 0 t) (iblk1 V c 1 t) (iblk1 V c 2 t) (iblk1 V c 3 t) (iblk1 V c 4 t) (y 0) (y 1) := by
  unfold outsAt1
  frame_out
  canon_tiles x h using (View.cover_of_tiledBy _ ![256, 128] (by sl_kernel_rfl) y)
  · exact narrow_entry (iblk1 V c 0 t) (iblk1 V c 1 t) (iblk1 V c 2 t) (iblk1 V c 3 t) (iblk1 V c 4 t) 5632 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 5120 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 4608 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 4096 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 3584 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 3072 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 2560 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 2048 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 1536 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 1024 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 512 (by omega) _ _ _ (fun r l => by pointwise) (fun r l => by pointwise) (fun l => by pointwise) x y h0 h1
  · exact wide_entry (iblk1 V c 0 t) (iblk1 V c 1 t) (iblk1 V c 2 t) (iblk1 V c 3 t) (iblk1 V c 4 t) 0 (by omega) _ _ _ (fun r l => by pointwise) (fun r l => by pointwise) (fun l => by pointwise) x y h0 (by omega)

/-- Where each window's block lies: row block `t` of the rows and of the result, the rest whole. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] := by decide +kernel

/-- **The result array** after the second kernel call, from the arrays it was entered with. -/
theorem final1 (c : Dev nD) : (dat1 V c).arrAt 5 cfg1.N
    = fun i : S12288x5760.Idx => entry (V c main_v5) (V c main_v4) (V c main_arg5) (V c main_arg6) (V c main_v6) (i 0) (i 1) := by
  refine (dat1 V c).arrAt_eq_of_covers 5 _ (by decide +kernel) fun t hf y => ?_
  blk_simp
  rw [after1_5, out1_apply]
  have ht : t.val < 48 := t.isLt
  have b0 : ∀ (r : Fin 256) (k : Fin 3328), iblk1 V c 0 t (ix2 r k) = V c main_v5 (ix2 ⟨t.val * 256 + r.val, by omega⟩ k) := fun r k => by
    blk_ext [iblk1, idx1 t]
  have b1 : ∀ (k : Fin 3328) (o : Fin 5760), iblk1 V c 1 t (ix2 k o) = V c main_v4 (ix2 k o) := fun k o => by
    blk_ext [iblk1, idx1 t]
  have b2 : ∀ (k : Fin 3328) (j : Fin 64), iblk1 V c 2 t (ix2 k j) = V c main_arg5 (ix2 k j) := fun k j => by
    blk_ext [iblk1, idx1 t]
  have b3 : ∀ (j : Fin 64) (o : Fin 5760), iblk1 V c 3 t (ix2 j o) = V c main_arg6 (ix2 j o) := fun j o => by
    blk_ext [iblk1, idx1 t]
  have b4 : ∀ (z : Fin 1) (o : Fin 5760), iblk1 V c 4 t (ix2 z o) = V c main_v6 (ix2 z o) := fun z o => by
    blk_ext [iblk1, idx1 t]
  have e0 : (win1_5.blk t).view.emb y 0 = (⟨t.val * 256 + (y 0).val, by have h : (y 0).val < 256 := (y 0).isLt; omega⟩ : Fin 12288) := Fin.ext (by blk_simp [idx1 t])
  have e1 : (win1_5.blk t).view.emb y 1 = (⟨(y 1).val, (y 1).isLt⟩ : Fin 5760) := Fin.ext (by blk_simp [idx1 t])
  rw [e0, e1]
  exact entry_congr (fun k => b0 (y 0) k) (fun k => b1 k (y 1)) b2 (fun j => b3 j (y 1)) (b4 0 (y 1))

end Cert.KernelIdeal.Product
-- ==== Proof.RunValue.lean ====
/-
  What a run of the kernel leaves: the result array at what the last host operation writes there, every argument as it was.

  The launch is the frame theorem's; only what is read off the final state differs.
-/
module

public import proofs.«01_k».proof.Proof.Gen.KernelIdeal.Frame

@[expose] public section

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one, which takes unfolding plain
-- definitions in a metavariable's type
set_option backward.isDefEq.respectTransparency.types false in
/-- **The run's results**: from any memory with zero counters every fair execution ends, the result array then holding the
    last boundary's contents of it and the arguments what they held. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue
-- ==== Proof.KernelValue.lean ====
/-
  The kernel's result at an index: the two kernel calls' arrays and the host's reshapes between them, read back to the
  arguments.
-/
module

public import proofs.«01_k».proof.Proof.Formula
public import proofs.«01_k».proof.Proof.Dequant
public import proofs.«01_k».proof.Proof.Matmul
public import proofs.«01_k».proof.Proof.RunValue
public import Idealize.ShloMosaic.Lib.Claim

@[expose] public section

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The table as the first kernel call finds it. -/
theorem table_in (z : Fin 1) (i : Fin 16) : V1 m ρ c main_v3 (ix2 z i) = m ((c : Thread nD τ).loc main_arg2) (ix1 i) := by
  show StableHlo.after hostOps0 (W0 m ρ c) (Proc.devRef .tc main_v3) (ix2 z i) = _
  entry_read
  pointwise

/-- The float scales as the first kernel call finds them: each repeated 256 times. -/
theorem scales_in (r : Fin 52) (o : Fin 5760) :
    V1 m ρ c main_v2 (ix2 r o) = m ((c : Thread nD τ).loc main_arg4) (ix1 ⟨(r.val * 5760 + o.val) / 256, by omega⟩) := by
  show StableHlo.after hostOps0 (W0 m ρ c) (Proc.devRef .tc main_v2) (ix2 r o) = _
  entry_read
  pointwise

/-- The weights as the second kernel call finds them. -/
theorem weights_in (k : Fin 3328) (o : Fin 5760) :
    V3 m ρ c main_v4 (ix2 k o) = Formula.weight (m ((c : Thread nD τ).loc main_arg1)) (m ((c : Thread nD τ).loc main_arg2))
      (m ((c : Thread nD τ).loc main_arg3)) (m ((c : Thread nD τ).loc main_arg4)) k o := by
  have h : V3 m ρ c main_v4 = (dat0 (V1 m ρ) c).arrAt 4 cfg0.N := (W3_of m ρ c main_v4 (by decide)).trans (W2_arr m ρ c 4)
  rw [h, Dequant.final0]
  show Dequant.weight (V1 m ρ c main_arg1) (V1 m ρ c main_v3) (V1 m ρ c main_arg3) (V1 m ρ c main_v2) k o = _
  unfold Dequant.weight Formula.weight
  rw [table_in, scales_in, show V1 m ρ c main_arg1 = _ from W1_args m ρ c main_arg1 (by decide),
    show V1 m ρ c main_arg3 = _ from W1_args m ρ c main_arg3 (by decide)]

/-- The rows as the second kernel call finds them: the batches one after another. -/
theorem rows_in (p : Fin 3) (s : Fin 4096) (k : Fin 3328) :
    V3 m ρ c main_v5 (ix2 ⟨p.val * 4096 + s.val, by omega⟩ k) = m ((c : Thread nD τ).loc main_arg0) (ix3 p s k) := by
  have h : W2 m ρ c (Proc.devRef .tc main_arg0) = m ((c : Thread nD τ).loc main_arg0) := W2_args m ρ c main_arg0 (by decide)
  show StableHlo.after hostOps1 (W2 m ρ c) (Proc.devRef .tc main_v5) _ = _
  entry_read
  rw [h]
  pointwise

/-- The bias as the second kernel call finds it. -/
theorem bias_in (z : Fin 1) (o : Fin 5760) : V3 m ρ c main_v6 (ix2 z o) = m ((c : Thread nD τ).loc main_arg7) (ix1 o) := by
  have h : W2 m ρ c (Proc.devRef .tc main_arg7) = m ((c : Thread nD τ).loc main_arg7) := W2_args m ρ c main_arg7 (by decide)
  show StableHlo.after hostOps1 (W2 m ρ c) (Proc.devRef .tc main_v6) _ = _
  entry_read
  rw [h]
  pointwise

/-- The result is the second kernel call's array cut into the batches. -/
theorem result_out (p : Fin 3) (s : Fin 4096) (o : Fin 5760) :
    W5 m ρ c (Proc.devRef .tc main_v8) (ix3 p s o) = W4 m ρ c (Proc.devRef .tc main_v7) (ix2 ⟨p.val * 4096 + s.val, by omega⟩ o) := by
  show StableHlo.after hostOps2 (W4 m ρ c) (Proc.devRef .tc main_v8) _ = _
  entry_read
  pointwise

/-- **The kernel's result** at an index is the layer's entry. -/
theorem result_apply (p : Fin 3) (s : Fin 4096) (o : Fin 5760) :
    W5 m ρ c (Proc.devRef .tc main_v8) (ix3 p s o) = Formula.result (m ((c : Thread nD τ).loc main_arg0))
      (Formula.weight (m ((c : Thread nD τ).loc main_arg1)) (m ((c : Thread nD τ).loc main_arg2)) (m ((c : Thread nD τ).loc main_arg3)) (m ((c : Thread nD τ).loc main_arg4)))
      (m ((c : Thread nD τ).loc main_arg5)) (m ((c : Thread nD τ).loc main_arg6)) (m ((c : Thread nD τ).loc main_arg7)) p s o := by
  have h : W4 m ρ c (Proc.devRef .tc main_v7) = (dat1 (V3 m ρ) c).arrAt 5 cfg1.N := W4_arr m ρ c 5
  rw [result_out, h, Product.final1]
  show Product.entry (V3 m ρ c main_v5) (V3 m ρ c main_v4) (V3 m ρ c main_arg5) (V3 m ρ c main_arg6) (V3 m ρ c main_v6) ⟨p.val * 4096 + s.val, by omega⟩ o = _
  unfold Product.entry Formula.result
  have h5 : V3 m ρ c main_arg5 = m ((c : Thread nD τ).loc main_arg5) := W3_args m ρ c main_arg5 (by decide)
  have h6 : V3 m ρ c main_arg6 = m ((c : Thread nD τ).loc main_arg6) := W3_args m ρ c main_arg6 (by decide)
  have hlow (j : Fin 64) := Finset.sum_congr rfl fun (k : Fin 3328) (_ : k ∈ Finset.univ) =>
    congrArg₂ (fun a b : EReal => a * b) (rows_in m ρ c p s k) (congrFun h5 (ix2 k j))
  exact congrArg₂ (fun a b : EReal => a + b)
    (congrArg₂ (fun a b : EReal => a + b)
      (Finset.sum_congr rfl fun k _ => congrArg₂ (fun a b : EReal => a * b) (rows_in m ρ c p s k) (weights_in m ρ c k o))
      (congrArg (fun a : EReal => _ * a)
        (Finset.sum_congr rfl fun j _ => congrArg₂ (fun a b : EReal => a * b) (hlow j) (congrFun h6 (ix2 j o)))))
    (bias_in m ρ c 0 o)

end Cert.KernelIdeal.Whole
-- ==== Proof.RefValue.lean ====
/-
  The reference's result at an index.

  The reference's value is one composed term of its arguments; it is named here in stages (the four-bit codes, the position
  looked up, the entry found, the block scales, the weights) and each stage is read at an index.
-/
module

public import proofs.«01_k».proof.Proof.Formula
public import proofs.«01_k».proof.Proof.Gen.ReferenceIdeal.Run
public import Idealize.ShloMosaic.Lib.ValueIdx
public import Idealize.ShloMosaic.Lib.KernelVsHost
public import Idealize.ShloMosaic.Lib.Tactic
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The codes, two of each byte: the high half first. -/
def codes (q : Vec Ideal S1664x5760 .i8) : IVec S3328x5760 32 :=
  shapeCast _ (concatenate S1664x2x5760 1 [⟨S1664x1x5760, (broadcastInDim S1664x1x5760 ![0, 2] bcast_S1664x5760_S1664x1x5760_0_2 (Host.shrsi (extui 32 q natLt_8_32) (broadcastInDim S1664x5760 ![] bcast_S_S1664x5760 (constantI S_ 32 4#32))))⟩, ⟨S1664x1x5760, (broadcastInDim S1664x1x5760 ![0, 2] bcast_S1664x5760_S1664x1x5760_0_2 (andi (extui 32 q natLt_8_32) (broadcastInDim S1664x5760 ![] bcast_S_S1664x5760 (constantI S_ 32 15#32))))⟩] concatenates_S1664x1x5760_S1664x1x5760_S1664x2x5760_d1) shapeCasts_S1664x2x5760_S3328x5760

/-- The position looked up: the code, sixteen more where it is negative. -/
def position (q : Vec Ideal S1664x5760 .i8) : IVec S3328x5760x1 32 :=
  broadcastInDim S3328x5760x1 ![0, 1] bcast_S3328x5760_S3328x5760x1_0_1 (select (cmpi .slt (codes q) (broadcastInDim S3328x5760 ![] bcast_S_S3328x5760 (constantI S_ 32 0#32))) (addi (codes q) (broadcastInDim S3328x5760 ![] bcast_S_S3328x5760 (constantI S_ 32 16#32))) (codes q))

/-- Whether the position lies in the table. -/
def inside (q : Vec Ideal S1664x5760 .i8) : IVec S3328x5760 1 :=
  Host.reduce IntOp.andi (andi (cmpi .sge (position q) (broadcastInDim S3328x5760x1 ![] bcast_S_S3328x5760x1 (constantI S_ 32 0#32))) (cmpi .sle (position q) (broadcastInDim S3328x5760x1 ![0, 1, 2] bcast_S1x1x1_S3328x5760x1_0_1_2 (broadcastInDim S1x1x1 ![2] bcast_S1_S1x1x1_2 (constantI S1 32 15#32))))) (constantI S_ 1 1#1) reducesTo_S3328x5760x1_S3328x5760_d2 h_S_

/-- The table's entry at the code. -/
def found (q : Vec Ideal S1664x5760 .i8) (tbl : Vec Ideal S16 .f32) : FVec Ideal S3328x5760 .bf16 :=
  select (inside q) (Host.gather gather_S16_S3328x5760x1_S3328x5760_n_0_n_n_0_2_1 (truncf .bf16 tbl bitsLt_bf16_f32) (position q)) (broadcastInDim S3328x5760 ![] bcast_S_S3328x5760 (constant S_ .bf16 0x7FC0#16))

/-- The block scales: an integer scale for each sixty-four rows of a column, a float scale for each 256 of those. -/
def scales (am : Vec Ideal S52x5760 .i8) (sc : Vec Ideal S1170 .f32) : FVec Ideal S52x5760 .bf16 :=
  truncf .bf16 (shapeCast S52x5760 (mulf (shapeCast S1170x256 (sitofp .f32 (extsi 32 am natLt_8_32)) shapeCasts_S52x5760_S1170x256) (broadcastInDim S1170x256 ![0, 1] bcast_S1170x1_S1170x256_0_1 (broadcastInDim S1170x1 ![0] bcast_S1170_S1170x1_0 sc))) shapeCasts_S1170x256_S52x5760) bitsLt_bf16_f32

/-- The weights: an entry found times its block's scale. -/
def weights (q : Vec Ideal S1664x5760 .i8) (tbl : Vec Ideal S16 .f32) (am : Vec Ideal S52x5760 .i8) (sc : Vec Ideal S1170 .f32) : FVec Ideal S3328x5760 .bf16 :=
  shapeCast S3328x5760 (mulf (shapeCast S52x64x5760 (found q tbl) shapeCasts_S3328x5760_S52x64x5760) (broadcastInDim S52x64x5760 ![0, 1, 2] bcast_S52x1x5760_S52x64x5760_0_1_2 (broadcastInDim S52x1x5760 ![0, 2] bcast_S52x5760_S52x1x5760_0_2 (scales am sc)))) shapeCasts_S52x64x5760_S3328x5760

/-- The product with some weights, the low-rank correction and the bias. -/
def product (x : FVec Ideal S3x4096x3328 .bf16) (w : FVec Ideal S3328x5760 .bf16) (a : FVec Ideal S3328x64 .bf16) (b : FVec Ideal S64x5760 .bf16) (bi : FVec Ideal S5760 .f32) : FVec Ideal S3x4096x5760 .bf16 :=
  truncf .bf16 (addf (addf (Host.dotGeneral dot_S3x4096x3328_S3328x5760_S3x4096x5760_2_0_01_1_n_n none x w) (mulf (broadcastInDim S3x4096x5760 ![] bcast_S_S3x4096x5760 (constant S_ .f32 0x3E800000#32)) (Host.dotGeneral dot_S3x4096x64_S64x5760_S3x4096x5760_2_0_01_1_n_n none (truncf .bf16 (Host.dotGeneral dot_S3x4096x3328_S3328x64_S3x4096x64_2_0_01_1_n_n none x a) bitsLt_bf16_f32) b))) (broadcastInDim S3x4096x5760 ![0, 1, 2] bcast_S1x1x5760_S3x4096x5760_0_1_2 (broadcastInDim S1x1x5760 ![2] bcast_S5760_S1x1x5760_2 bi))) bitsLt_bf16_f32

/-- The reference's composed term is these stages. -/
theorem res_stages (m : (ℓ : Loc nD τ sig) → Buf (Elt Ideal) ℓ) (c : Dev nD) :
    res_main_v34 m c = product (m ((c.tc : Thread nD τ).loc main_arg0)) (weights (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) (m ((c.tc : Thread nD τ).loc main_arg7)) := rfl

/-- The high half of a byte, cut out of its 32-bit extension, is an even row's code. -/
theorem half_hi (k : Nat) (hk : k % 2 < 1) (w : BitVec 8) :
    IntOp.shrsi .host (BitVec.setWidth 32 w) 4#32 = BitVec.ofNat 32 (Formula.nib k w).val := by
  have hi : ∀ w : BitVec 8, IntOp.shrsi .vector (BitVec.setWidth 32 w) 4#32 = BitVec.ofNat 32 (w.toNat / 16) := by decide +kernel
  unfold Formula.nib Cert.KernelIdeal.Dequant.nib
  rw [if_pos (by omega), shrsi_unit .host .vector, hi]

/-- The low half of a byte is an odd row's code. -/
theorem half_lo (k : Nat) (hk : ¬ k % 2 < 1) (w : BitVec 8) :
    IntOp.andi (BitVec.setWidth 32 w) 15#32 = BitVec.ofNat 32 (Formula.nib k w).val := by
  have lo : ∀ w : BitVec 8, IntOp.andi (BitVec.setWidth 32 w) 15#32 = BitVec.ofNat 32 (w.toNat % 16) := by decide +kernel
  unfold Formula.nib Cert.KernelIdeal.Dequant.nib
  rw [if_neg (by omega), lo]

/-- A conjunction of ones is one. -/
theorem conj_ones {α : Type} (f : α → BitVec 1) (hf : ∀ i, f i = 1#1) (l : List α) :
    l.foldl (fun r i => IntOp.andi r (f i)) 1#1 = 1#1 := by
  induction l with
  | nil => rfl
  | cons i l ih => rw [List.foldl_cons, hf]; exact ih

/-- A code, as a word. -/
theorem codes_apply (q : Vec Ideal S1664x5760 .i8) (k : Fin 3328) (o : Fin 5760) :
    codes q (ix2 k o) = BitVec.ofNat 32 (Formula.nib k.val (q (ix2 ⟨k.val / 2, by omega⟩ o))).val := by
  pointwise [codes]
  by_cases hk : k.val % 2 < 1
  · rw [dif_pos hk, half_hi k.val hk]
  · rw [dif_neg hk, half_lo k.val hk]

/-- The position at an index. -/
theorem position_apply (q : Vec Ideal S1664x5760 .i8) (k : Fin 3328) (o : Fin 5760) (z : Fin 1) :
    position q (ix3 k o z) = BitVec.ofNat 32 (Formula.nib k.val (q (ix2 ⟨k.val / 2, by omega⟩ o))).val := by
  have h : ∀ n : Fin 16, Scalar.select (IntOp.cmpi .slt (BitVec.ofNat 32 n.val) 0#32) (IntOp.addi (BitVec.ofNat 32 n.val) 16#32)
      (BitVec.ofNat 32 n.val) = BitVec.ofNat 32 n.val := by decide +kernel
  pointwise [position, codes_apply]
  exact h _

/-- Every position lies in the table. -/
theorem inside_apply (q : Vec Ideal S1664x5760 .i8) (k : Fin 3328) (o : Fin 5760) : inside q (ix2 k o) = 1#1 := by
  have h : ∀ n : Fin 16, IntOp.andi (IntOp.cmpi .sge (BitVec.ofNat 32 n.val) 0#32) (IntOp.cmpi .sle (BitVec.ofNat 32 n.val) 15#32) = 1#1 := by
    decide +kernel
  unfold inside
  rw [Host.reduce_eq_foldl]
  refine conj_ones _ (fun i => ?_) _
  obtain ⟨k, o, z, rfl⟩ : ∃ (k : Fin 3328) (o : Fin 5760) (z : Fin 1), i = ix3 k o z := ⟨i 0, i 1, i 2, eq_ix3 i⟩
  pointwise [position_apply]
  exact h _

/-- What is found is the table's entry at the code. -/
theorem found_apply (q : Vec Ideal S1664x5760 .i8) (tbl : Vec Ideal S16 .f32) (k : Fin 3328) (o : Fin 5760) :
    found q tbl (ix2 k o) = tbl (ix1 (Formula.nib k.val (q (ix2 ⟨k.val / 2, by omega⟩ o)))) := by
  have hn : ∀ n : Fin 16, min (BitVec.ofNat 32 n.val).toInt.toNat 15 = n.val := by decide +kernel
  have hg : (Host.gather gather_S16_S3328x5760x1_S3328x5760_n_0_n_n_0_2_1 (truncf .bf16 tbl bitsLt_bf16_f32) (position q) : FVec Ideal S3328x5760 .bf16) (ix2 k o)
      = tbl (ix1 (Formula.nib k.val (q (ix2 ⟨k.val / 2, by omega⟩ o)))) := by
    refine (ValueIdx.gather_take_apply (N := 16) (R := 3328) (C := 5760) (by omega) _ _ _ _).trans ?_
    have hp : position q (ValueIdx.takeIdx (ix2 k o)) = BitVec.ofNat 32 (Formula.nib k.val (q (ix2 ⟨k.val / 2, by omega⟩ o))).val :=
      (congrArg (position q) (eq_ix3 _)).trans (position_apply q k o 0)
    pointwise
    refine congrArg tbl (congrArg ix1 (Fin.ext ?_))
    show min (position q _).toInt.toNat 15 = _
    rw [hp]
    exact hn _
  unfold found
  refine Eq.trans ?_ hg
  show Scalar.select (inside q (ix2 k o)) _ _ = _
  rw [inside_apply]
  rfl

/-- The block scale at an index. -/
theorem scales_apply (am : Vec Ideal S52x5760 .i8) (sc : Vec Ideal S1170 .f32) (r : Fin 52) (o : Fin 5760) :
    scales am sc (ix2 r o) = FloatOps.sitofp (F := Ideal) .f32 (am (ix2 r o) : BitVec 8) * sc (ix1 ⟨(r.val * 5760 + o.val) / 256, by omega⟩) := by
  pointwise [scales]
  have h8 : ∀ w : BitVec 8, FloatOps.sitofp (F := Ideal) .f32 (BitVec.signExtend 32 w) = FloatOps.sitofp (F := Ideal) .f32 w := by
    intro w
    show (((BitVec.signExtend 32 w).toInt : ℝ) : EReal) = ((w.toInt : ℝ) : EReal)
    rw [BitVec.toInt_signExtend_of_le (by omega)]
  exact congrArg (· * _) (h8 _)

/-- The rows cut into blocks of sixty-four. -/
theorem cast_in {α : Type} (f : S3328x5760.Idx → α) (r : Fin 52) (i : Fin 64) (o : Fin 5760) :
    shapeCast S52x64x5760 f shapeCasts_S3328x5760_S52x64x5760 (ix3 r i o) = f (ix2 ⟨r.val * 64 + i.val, by omega⟩ o) := by
  pointwise

/-- The blocks of sixty-four rows one after another. -/
theorem cast_out {α : Type} (g : S52x64x5760.Idx → α) (k : Fin 3328) (o : Fin 5760) :
    shapeCast S3328x5760 g shapeCasts_S52x64x5760_S3328x5760 (ix2 k o) = g (ix3 ⟨k.val / 64, by omega⟩ ⟨k.val % 64, by omega⟩ o) := by
  pointwise

/-- A row of scales over each block of sixty-four rows. -/
theorem over {α : Type} (g : S52x5760.Idx → α) (r : Fin 52) (i : Fin 64) (o : Fin 5760) :
    broadcastInDim S52x64x5760 ![0, 1, 2] bcast_S52x1x5760_S52x64x5760_0_1_2 (broadcastInDim S52x1x5760 ![0, 2] bcast_S52x5760_S52x1x5760_0_2 g) (ix3 r i o) = g (ix2 r o) := by
  pointwise

/-- The product of two vectors at an index is the product of their entries. -/
theorem mul_at {S : Shape} (x y : FVec Ideal S .bf16) (i : S.Idx) : mulf x y i = (x i * y i : EReal) := rfl

/-- The weight at an index. -/
theorem weights_apply (q : Vec Ideal S1664x5760 .i8) (tbl : Vec Ideal S16 .f32) (am : Vec Ideal S52x5760 .i8) (sc : Vec Ideal S1170 .f32) (k : Fin 3328) (o : Fin 5760) :
    weights q tbl am sc (ix2 k o) = Formula.weight q tbl am sc k o := by
  have hk : (⟨k.val / 64 * 64 + k.val % 64, by omega⟩ : Fin 3328) = k := Fin.ext (by show k.val / 64 * 64 + k.val % 64 = k.val; omega)
  unfold weights
  rw [cast_out, mul_at, cast_in, over]
  dsimp only
  rw [hk, found_apply, scales_apply]
  rfl

/-- The reference's result at an index. -/
theorem product_apply (x : FVec Ideal S3x4096x3328 .bf16) (w : FVec Ideal S3328x5760 .bf16) (a : FVec Ideal S3328x64 .bf16) (b : FVec Ideal S64x5760 .bf16) (bi : FVec Ideal S5760 .f32)
    (p : Fin 3) (s : Fin 4096) (o : Fin 5760) : product x w a b bi (ix3 p s o) = Formula.result x (fun k o => w (ix2 k o)) a b bi p s o := by
  unfold Formula.result
  pointwise [product]

/-- **The reference's result** at an index is the layer's entry. -/
theorem res_apply (m : (ℓ : Loc nD τ sig) → Buf (Elt Ideal) ℓ) (c : Dev nD) (p : Fin 3) (s : Fin 4096) (o : Fin 5760) :
    res_main_v34 m c (ix3 p s o) = Formula.result (m ((c.tc : Thread nD τ).loc main_arg0))
      (Formula.weight (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) (m ((c.tc : Thread nD τ).loc main_arg7)) p s o := by
  rw [res_stages, product_apply]
  exact congrArg (fun w => Formula.result _ w _ _ _ p s o) (funext fun k => funext fun o => weights_apply _ _ _ _ k o)

end Cert.ReferenceIdeal.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Bf16Pair
public import Idealize.ShloMosaic.Adequacy
public import Idealize.ShloMosaic.Init

@[expose] public section

noncomputable section

namespace Cert.Proof

open Idealize.ShloMosaic Idealize.SL.Sem

/-- `Kernel` at `Bits` terminates, keeps its arguments and leaves every counter at zero. -/
theorem frame_kernel : Cert.quiescent_Kernel := fun m ρ _ => Cert.Kernel.Gen.frame m ρ

/-- `KernelIdeal` at `Ideal` terminates, keeps its arguments and leaves every counter at zero. -/
theorem frame_ideal : Cert.quiescent_KernelIdeal := fun m ρ _ => Cert.KernelIdeal.Gen.frame m ρ

/-- `ReferenceIdeal` terminates, keeps its arguments and leaves every counter at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites that separate `KernelIdeal` from `Kernel` are the pair rule's, at the two shapes it was used at. -/
theorem preserves : Cert.preserves_Kernel_KernelIdeal :=
  ⟨IdealRules.bf16_pair.packStatement _, IdealRules.bf16_pair.statement _ _⟩

/-- At `Ideal` the kernel and the reference, from arguments that agree, end with the same result array: each holds at every
    index the layer's entry of the arguments (Formula.lean). -/
theorem algebraic : Cert.algebraic_KernelIdeal_ReferenceIdeal := by
  intro m g m' g' _ hagree
  refine ⟨fun c => Cert.KernelIdeal.Gen.W5 m g c (Proc.devRef .tc Cert.KernelIdeal.main_v8), Cert.KernelIdeal.RunValue.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7⟩ := hagree c
  funext i
  obtain ⟨p, s, o, rfl⟩ : ∃ (p : Fin 3) (s : Fin 4096) (o : Fin 5760), i = ix3 p s o := ⟨i 0, i 1, i 2, eq_ix3 i⟩
  refine (Cert.ReferenceIdeal.Value.res_apply m' c p s o).trans ?_
  rw [h0, h1, h2, h3, h4, h5, h6, h7]
  exact (Cert.KernelIdeal.Whole.result_apply m g c p s o).symm

/-- Everything that is claimed. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
